-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x256 : Shape := ⟨3, ![16, 256, 256]⟩
abbrev S21x64 : Shape := ⟨2, ![21, 64]⟩
abbrev S21 : Shape := ⟨1, ![21]⟩
abbrev S1048576 : Shape := ⟨1, ![1048576]⟩
abbrev S_ : Shape := ⟨0, ![]⟩
abbrev S32 : Shape := ⟨1, ![32]⟩
abbrev S1 : Shape := ⟨1, ![1]⟩
abbrev S32768 : Shape := ⟨1, ![32768]⟩
abbrev S16 : Shape := ⟨1, ![16]⟩
abbrev S16x1x256x256 : Shape := ⟨4, ![16, 1, 256, 256]⟩

abbrev nBuf : Table → Nat
  | .hbm => 11
  | .local .scVector .vmem => 2
  | _ => 0

abbrev bufTy : (tb : Table) → Fin (nBuf tb) → BufTy
  | .hbm, ⟨0, _⟩ => ⟨S16x256x256, .f32⟩
  | .hbm, ⟨1, _⟩ => ⟨S21x64, .f32⟩
  | .hbm, ⟨2, _⟩ => ⟨S21, .f32⟩
  | .hbm, ⟨3, _⟩ => ⟨S1048576, .f32⟩
  | .hbm, ⟨4, _⟩ => ⟨S_, .f32⟩
  | .hbm, ⟨5, _⟩ => ⟨S32, .f32⟩
  | .hbm, ⟨6, _⟩ => ⟨S_, .i32⟩
  | .hbm, ⟨7, _⟩ => ⟨S1, .i32⟩
  | .hbm, ⟨8, _⟩ => ⟨S32, .f32⟩
  | .hbm, ⟨9, _⟩ => ⟨S1048576, .f32⟩
  | .hbm, ⟨10, _⟩ => ⟨S16x1x256x256, .f32⟩
  | .local .scVector .vmem, ⟨0, _⟩ => ⟨S32768, .f32⟩
  | .local .scVector .vmem, ⟨1, _⟩ => ⟨S32, .f32⟩
  | _, _ => ⟨S16x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v0_scv : Ref sig .scVector := ⟨.hbm, 3, rfl⟩
abbrev main_v3_scv : Ref sig .scVector := ⟨.hbm, 8, rfl⟩
abbrev main_v4_scv : Ref sig .scVector := ⟨.hbm, 9, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_0 : BitVec 32 := 0#32
  let c2048_i32 : BitVec 32 := 2048#32
  let v3 : BitVec 32 := Scalar.addi c0_i32_0 c2048_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c16_i32 : BitVec 32 := 16#32
  let v4 : BitVec 32 := Scalar.muli arg7 c16_i32
  let v5 : Index := Scalar.indexCast v4
  ![v5.toNat]

def k0_chk1 (v13 : IVec S16 32) : Prop :=
  (∀ a x, ((![v13] : Fin 1 → IVec S16 32) a x).toNat < S32.size a)
theorem k0_idx1_inb : ∀ (v13 : IVec S16 32) (k0_hw1 : k0_chk1 v13), ∀ a x, ((![v13] : Fin 1 → IVec S16 32) a x).toNat < S32.size a := fun v13 k0_hw1 => k0_hw1
def k0_off3 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c16_i32 : BitVec 32 := 16#32
  let v4 : BitVec 32 := Scalar.muli arg7 c16_i32
  let v15 : Index := Scalar.indexCast v4
  ![v15.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x256x256 : Shape := ⟨3, ![16, 256, 256]⟩
abbrev S21x64 : Shape := ⟨2, ![21, 64]⟩
abbrev S21 : Shape := ⟨1, ![21]⟩
abbrev S_ : Shape := ⟨0, ![]⟩
abbrev S16x256x256x1 : Shape := ⟨4, ![16, 256, 256, 1]⟩
abbrev S1 : Shape := ⟨1, ![1]⟩
abbrev S1x1x1x1 : Shape := ⟨4, ![1, 1, 1, 1]⟩
abbrev S16x256x256x64 : Shape := ⟨4, ![16, 256, 256, 64]⟩
abbrev S16x1x256x256 : Shape := ⟨4, ![16, 1, 256, 256]⟩

abbrev nBuf : Space → Nat
  | .hbm => 64
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S21x64, .f32⟩
  | .hbm, ⟨2, _⟩ => ⟨S21, .f32⟩
  | .hbm, ⟨3, _⟩ => ⟨S_, .f32⟩
  | .hbm, ⟨4, _⟩ => ⟨S16x256x256, .f32⟩
  | .hbm, ⟨5, _⟩ => ⟨S16x256x256, .f32⟩
  | .hbm, ⟨6, _⟩ => ⟨S16x256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16x256x256, .i32⟩
  | .hbm, ⟨11, _⟩ => ⟨S16x256x256, .i32⟩
  | .hbm, ⟨12, _⟩ => ⟨S_, .i32⟩
  | .hbm, ⟨13, _⟩ => ⟨S16x256x256, .i32⟩
  | .hbm, ⟨14, _⟩ => ⟨S16x256x256, .i32⟩
  | .hbm, ⟨15, _⟩ => ⟨S_, .i32⟩
  | .hbm, ⟨16, _⟩ => ⟨S16x256x256, .i32⟩
  | .hbm, ⟨17, _⟩ => ⟨S16x256x256, .i1⟩
  | .hbm, ⟨18, _⟩ => ⟨S_, .i32⟩
  | .hbm, ⟨19, _⟩ => ⟨S16x256x256, .i32⟩
  | .hbm, ⟨20, _⟩ => ⟨S16x256x256, .i32⟩
  | .hbm, ⟨21, _⟩ => ⟨S16x256x256, .i32⟩
  | .hbm, ⟨22, _⟩ => ⟨S16x256x256x1, .i32⟩
  | .hbm, ⟨23, _⟩ => ⟨S1, .i32⟩
  | .hbm, ⟨24, _⟩ => ⟨S_, .i32⟩
  | .hbm, ⟨25, _⟩ => ⟨S16x256x256x1, .i32⟩
  | .hbm, ⟨26, _⟩ => ⟨S16x256x256x1, .i1⟩
  | .hbm, ⟨27, _⟩ => ⟨S1x1x1x1, .i32⟩
  | .hbm, ⟨28, _⟩ => ⟨S16x256x256x1, .i32⟩
  | .hbm, ⟨29, _⟩ => ⟨S16x256x256x1, .i1⟩
  | .hbm, ⟨30, _⟩ => ⟨S16x256x256x1, .i1⟩
  | .hbm, ⟨31, _⟩ => ⟨S_, .i1⟩
  | .hbm, ⟨32, _⟩ => ⟨S16x256x256, .i1⟩
  | .hbm, ⟨33, _⟩ => ⟨S16x256x256x64, .f32⟩
  | .hbm, ⟨34, _⟩ => ⟨S16x256x256x64, .i1⟩
  | .hbm, ⟨35, _⟩ => ⟨S_, .f32⟩
  | .hbm, ⟨36, _⟩ => ⟨S16x256x256x64, .f32⟩
  | .hbm, ⟨37, _⟩ => ⟨S16x256x256x64, .f32⟩
  | .hbm, ⟨38, _⟩ => ⟨S_, .i32⟩
  | .hbm, ⟨39, _⟩ => ⟨S16x256x256, .i32⟩
  | .hbm, ⟨40, _⟩ => ⟨S16x256x256, .i1⟩
  | .hbm, ⟨41, _⟩ => ⟨S_, .i32⟩
  | .hbm, ⟨42, _⟩ => ⟨S16x256x256, .i32⟩
  | .hbm, ⟨43, _⟩ => ⟨S16x256x256, .i32⟩
  | .hbm, ⟨44, _⟩ => ⟨S16x256x256, .i32⟩
  | .hbm, ⟨45, _⟩ => ⟨S16x256x256x1, .i32⟩
  | .hbm, ⟨46, _⟩ => ⟨S1, .i32⟩
  | .hbm, ⟨47, _⟩ => ⟨S_, .i32⟩
  | .hbm, ⟨48, _⟩ => ⟨S16x256x256x1, .i32⟩
  | .hbm, ⟨49, _⟩ => ⟨S16x256x256x1, .i1⟩
  | .hbm, ⟨50, _⟩ => ⟨S1x1x1x1, .i32⟩
  | .hbm, ⟨51, _⟩ => ⟨S16x256x256x1, .i32⟩
  | .hbm, ⟨52, _⟩ => ⟨S16x256x256x1, .i1⟩
  | .hbm, ⟨53, _⟩ => ⟨S16x256x256x1, .i1⟩
  | .hbm, ⟨54, _⟩ => ⟨S_, .i1⟩
  | .hbm, ⟨55, _⟩ => ⟨S16x256x256, .i1⟩
  | .hbm, ⟨56, _⟩ => ⟨S16x256x256, .f32⟩
  | .hbm, ⟨57, _⟩ => ⟨S_, .f32⟩
  | .hbm, ⟨58, _⟩ => ⟨S16x256x256, .f32⟩
  | .hbm, ⟨59, _⟩ => ⟨S16x256x256, .f32⟩
  | .hbm, ⟨60, _⟩ => ⟨S_, .f32⟩
  | .hbm, ⟨61, _⟩ => ⟨S16x256x256, .f32⟩
  | .hbm, ⟨62, _⟩ => ⟨S16x256x256, .f32⟩
  | .hbm, ⟨63, _⟩ => ⟨S16x1x256x256, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v4 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_cst : Ref sig .tc := ⟨.hbm, 57, rfl⟩
abbrev main_call2_v14 : Ref sig .tc := ⟨.hbm, 58, rfl⟩
abbrev main_v5 : Ref sig .tc := ⟨.hbm, 59, rfl⟩
abbrev main_cst_1 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩

abbrev nD : Nat := 1
abbrev τ : Topo := Topo.v7x

variable {F : FTy → Type} [FloatOps F]
-- ==== Proof.Lookup.lean ====
/-
  The lookup one element goes through, for any float values: divide by five, convert to a 32-bit integer, clip to
  0 … 20, read that entry of a table of 32. Then the contents of a chunk of 32768 elements while the counted loop works
  through it sixteen elements a trip, and what one trip's store does to them.
-/
module

public import Idealize.ShloMosaic.PureOps
public import Idealize.ShloMosaic.Lib.Writes

@[expose] public section

noncomputable section

namespace Cert.Proof.Lookup

open Idealize.ShloMosaic

/-! ## Clipping a word -/

/-- A 32-bit word clipped, as a signed integer, to 0 … 20. -/
def clip (w : BitVec 32) : BitVec 32 := IntOp.minsi 20#32 (IntOp.maxsi 0#32 w)

/-- A clipped word is at most 20. -/
theorem clip_lt (w : BitVec 32) : (clip w).toNat < 21 := by
  unfold clip IntOp.minsi IntOp.maxsi
  simp only [BitVec.slt_eq_decide, decide_eq_true_eq]
  have h0 : (0#32 : BitVec 32).toInt = 0 := by decide
  have h20 : (20#32 : BitVec 32).toInt = 20 := by decide
  by_cases hw : w.toInt < (0#32 : BitVec 32).toInt
  · rw [if_pos hw, h20, h0, if_neg (by omega)]; decide
  · rw [if_neg hw]
    by_cases h : (20#32 : BitVec 32).toInt < w.toInt
    · rw [if_pos h]; decide
    · rw [if_neg h]
      rw [h0] at hw; rw [h20] at h
      rw [BitVec.toInt_eq_toNat_cond] at hw h
      split at hw <;> omega

variable {F : FTy → Type} [FloatOps F]

/-! ## One element -/

/-- The table position an element names: the element over five, converted to an integer, clipped. -/
def bin (x : F .f32) : BitVec 32 := clip (FloatOps.fptosi 32 (FloatOps.divf x (FloatOps.ofBits .f32 0x40A00000#32)))

/-- The table position of `x` as an index of the table. -/
def slot (x : F .f32) : (⟨1, ![32]⟩ : Shape).Idx :=
  fun a => ⟨(bin x).toNat, by have := clip_lt (FloatOps.fptosi 32 (FloatOps.divf x (FloatOps.ofBits .f32 0x40A00000#32)))
                              obtain rfl : a = 0 := Fin.eq_zero a
                              show (bin x).toNat < 32
                              unfold bin; omega⟩

/-- What the table `tab` holds for `x`. -/
def entry (tab : (⟨1, ![32]⟩ : Shape).Idx → F .f32) (x : F .f32) : F .f32 := tab (slot x)

/-! ## A chunk of elements, part of it looked up -/

/-- A chunk after `t` trips: the first `16 * t` elements of `x` replaced by their table entries. -/
def mid (tab : (⟨1, ![32]⟩ : Shape).Idx → F .f32) (x : (⟨1, ![32768]⟩ : Shape).Idx → F .f32) (t : ℕ) :
    (⟨1, ![32768]⟩ : Shape).Idx → F .f32 :=
  fun k => if (k 0).val < 16 * t then entry tab (x k) else x k

/-- Before the first trip the chunk is as fetched. -/
theorem mid_zero (tab : (⟨1, ![32]⟩ : Shape).Idx → F .f32) (x : (⟨1, ![32768]⟩ : Shape).Idx → F .f32) : mid tab x 0 = x :=
  funext fun _ => if_neg (by omega)

/-- After 2048 trips every element is looked up. -/
theorem mid_all (tab : (⟨1, ![32]⟩ : Shape).Idx → F .f32) (x : (⟨1, ![32768]⟩ : Shape).Idx → F .f32) :
    mid tab x 2048 = fun k => entry tab (x k) :=
  funext fun k => if_pos (show (k 0).val < 16 * 2048 from (k 0).isLt)

/-- One trip: storing, over elements `16 * t … 16 * t + 15` of the chunk, the table entries of what is there, is the
    chunk one trip on. -/
theorem mid_step {sig : RefSig} {κ : Kind} {sp : Space} (v : View sig κ sp ⟨1, ![32768]⟩ .f32)
    (tab : (⟨1, ![32]⟩ : Shape).Idx → F .f32) (x : (⟨1, ![32768]⟩ : Shape).Idx → F .f32) (t : ℕ)
    {off : Fin 1 → ℕ} (inb : ∀ a, off a + (![16] : Fin 1 → ℕ) a ≤ (⟨1, ![32768]⟩ : Shape).size a) (hoff : off = ![16 * t])
    (f : v.ty.Contents (Elt F)) (hf : v.read (Elt F) f = mid tab x t) :
    v.read (Elt F) ((v.slice (Rect.unit (s := ⟨1, ![32768]⟩) off ![16] inb)).write (Elt F) f
        (fun y => entry tab ((v.slice (Rect.unit (s := ⟨1, ![32768]⟩) off ![16] inb)).read (Elt F) f y)) Finset.univ)
      = mid tab x (t + 1) := by
  subst hoff
  funext k
  set r : Rect ⟨1, ![32768]⟩ := Rect.unit (s := ⟨1, ![32768]⟩) ![16 * t] ![16] inb with hr
  by_cases hk : k ∈ r.set
  · obtain ⟨y, hy⟩ := LoadRect.exists_idx_of_mem r.toLoadRect hk
    have hy' : r.emb y = k := hy
    have hk0 : (k 0).val = 16 * t + (y 0).val := by
      rw [← hy']; show 16 * t + 1 * (y 0).val = _; omega
    have hlt : (y 0).val < 16 := (y 0).isLt
    rw [← hy', View.read_slice_write_emb _ _ _ (Finset.mem_univ y)]
    show entry tab (v.read (Elt F) f (r.emb y)) = _
    rw [hf, hy']
    unfold mid
    rw [if_neg (by omega), if_pos (by omega)]
  · rw [View.read_slice_write_of_not_mem _ _ _ _ (by rw [Rect.map_emb_univ]; exact hk), hf]
    have hout : ¬ (16 * t ≤ (k 0).val ∧ (k 0).val < 16 * t + 16) := fun h =>
      hk (Rect.mem_set_unit.mpr fun a => by obtain rfl : a = 0 := Fin.eq_zero a; exact h)
    unfold mid
    by_cases hlt : (k 0).val < 16 * t
    · rw [if_pos hlt, if_pos (by omega)]
    · rw [if_neg hlt, if_neg (by omega)]

/-! ## Whole-array reads and writes -/

/-- A whole array written through a view reads back as what was written. -/
theorem read_writes_whole {sig : RefSig} {κ : Kind} {sp : Space} {s : Shape} {e : EltTy} {Val : EltTy → Type} (v : View sig κ sp s e)
    (f : v.ty.Contents Val) (w : s.Idx → Val e) : v.read Val (v.writes Val f [⟨Rect.whole s, w⟩]) = w := funext fun y => by
  have h := View.read_writes_cons_emb v f (Rect.whole s) w [] y
  rwa [Rect.emb_whole_apply] at h

/-- A whole buffer read through its whole window is its contents. -/
theorem read_access_whole {sig : RefSig} {κ : Kind} {Val : EltTy → Type} (b : Ref sig κ) (f : b.ty.Contents Val) :
    ((Memref.whole b).access (Rect.whole b.ty.shape)).read Val f = f := by
  funext y
  show (View.whole b).read Val f ((Rect.whole b.ty.shape).emb y) = f y
  rw [Rect.emb_whole_apply, View.read_whole]

end Cert.Proof.Lookup

end
-- ==== Proof.KernelIdealTask.lean ====
/-
  One vector subcore's task, run once at a symbolic pair (core, subcore), for any float values. The task fetches the
  table and its chunk of the flat input, looks every element of the chunk up sixteen at a time, and writes the chunk to
  its place in the flat output. What is stated of the output chunk is its exact contents: the table's entry for each
  input element.
-/
module

public import proofs.«01_k».proof.Defs
public import proofs.«01_k».proof.Proof.Lookup
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.KernelIdeal.Task

open Cert.KernelIdeal Cert.KernelIdeal.Gen Cert.Proof.Lookup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the resources -/

/-- The program's calls, with the pipelines' (it has none). -/
abbrev ΛP : Labels := Pipeline.Sig Λ₀ (Fin 0) fun p => (pcfgs (F := F) p).Adm
/-- The SparseCore program: one vector kernel. -/
abbrev K : SparseCore.Cfg τ sig (ΛP (F := F)) 1 := sc (F := F)
/-- The definitions its threads run. -/
abbrev D [FloatOps F] : Defs nD τ sig (Elt F) (ΛP (F := F)) := Pipeline.defs pcfgs defs₀
/-- No loop variants: every loop's trip count is known. -/
abbrev 𝒱₀ : Variants := Variants.none
/-- The same, for the program with the pipelines. -/
abbrev 𝒱 : Variants := 𝒱₀.lift
/-- The variant every thread starts at. -/
abbrev v₀ : 𝒱.V := Sum.inl none

/-- The launch semaphores are four different cells, none of them a kernel's scratch, and no shared buffer is a core's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The resource of the launch's handshakes. -/
abbrev UH : Type := URounds (GSem nD τ sig) ℕ
/-- The proof's own resources: the handshakes', and counters, which it leaves alone. -/
abbrev UU : Type := UH × Counters

local notation "𝕄" => MT nD τ sig (HIx 1) (Elt F) ℕ UU ℕ

/-- The handshakes' resource among all of them. -/
abbrev EH : Emb UH (MT nD τ sig (HIx 1) (Elt F) ℕ UU ℕ) := embL

/-- Device `d`'s flat input. -/
abbrev xLoc (d : Dev nD) : Loc nD τ sig := (SparseCore.T d).loc main_v0
/-- Device `d`'s table. -/
abbrev tLoc (d : Dev nD) : Loc nD τ sig := (SparseCore.T d).loc main_v3
/-- Device `d`'s flat output. -/
abbrev oLoc (d : Dev nD) : Loc nD τ sig := (SparseCore.T d).loc main_v4

local notation "xV" => (Memref.whole Cert.KernelIdeal.main_v0_scv : Memref Cert.KernelIdeal.sig Kind.scVector Space.hbm Cert.KernelIdeal.S1048576 EltTy.f32)
local notation "tV" => (Memref.whole Cert.KernelIdeal.main_v3_scv : Memref Cert.KernelIdeal.sig Kind.scVector Space.hbm Cert.KernelIdeal.S32 EltTy.f32)
local notation "oV" => (Memref.whole Cert.KernelIdeal.main_v4_scv : Memref Cert.KernelIdeal.sig Kind.scVector Space.hbm Cert.KernelIdeal.S1048576 EltTy.f32)
local notation "cV" => (Memref.whole Cert.KernelIdeal.cc0_scratch0 : Memref Cert.KernelIdeal.sig Kind.scVector Space.vmem Cert.KernelIdeal.S32768 EltTy.f32)
local notation "bV" => (Memref.whole Cert.KernelIdeal.cc0_scratch1 : Memref Cert.KernelIdeal.sig Kind.scVector Space.vmem Cert.KernelIdeal.S32 EltTy.f32)

/-! ## Thirty-two chunks -/

/-- The flat arrays split evenly in thirty-two. -/
theorem chunks : 32 ∣ S1048576.size 0 := ⟨32768, rfl⟩

/-- The elements of chunk `k` of a flat array. -/
def chunkSet (k : Fin 32) : Finset S1048576.Idx := (Rect.part (s := S1048576) (a₀ := 0) chunks k).set

/-- No element is in two chunks. -/
theorem chunkSet_disjoint : ∀ i ∈ (Finset.univ : Finset (Fin 32)), ∀ j ∈ (Finset.univ : Finset (Fin 32)), i ≠ j → Disjoint (chunkSet i) (chunkSet j) :=
  fun _ _ _ _ h => Rect.part_disjoint chunks h
/-- Every element is in a chunk. -/
theorem chunkSet_cover : (Finset.univ : Finset (Fin 32)).biUnion chunkSet = Finset.univ := Rect.biUnion_part chunks

/-- The chunk the subcore at `(c, i)` works on: number `2 i + c`. -/
def chunkOf (c : Fin 2) (i : Fin 16) : Fin 32 := ⟨2 * i.val + c.val, by omega⟩

section Tile

variable (d : Dev nD) (L : grid0.Coords)

/-- The SparseCore of the pair `L`. -/
abbrev core (L : grid0.Coords) : Fin τ.nSC := (L 0).castLE hcore0
/-- The subcore of the pair `L`. -/
abbrev tile (L : grid0.Coords) : Fin τ.nSub := (L 1).castLE hsub0
/-- The thread of the pair `L`. -/
abbrev thr (d : Dev nD) (L : grid0.Coords) : Thread nD τ := V d (core L) (tile L)
/-- The chunk of the pair `L`. -/
abbrev chunkAt (L : grid0.Coords) : Fin 32 := chunkOf (Fin.cast (show grid0.bound 0 = 2 from rfl) (L 0)) (Fin.cast (show grid0.bound 1 = 16 from rfl) (L 1))

/-- The task's chunk as it addresses it, the same in the input and in the output. -/
abbrev rectK (L : grid0.Coords) : Rect S1048576 := Rect.unit (s := S1048576) (k0_off1 L) S32768.size (k0_off1_inb L)
/-- The chunk as a window of the input. -/
abbrev xK (L : grid0.Coords) : Memref sig .scVector .hbm S32768 .f32 := (xV).slice (rectK L) (fun _ => rfl)
/-- The chunk as a window of the output. -/
abbrev oK (L : grid0.Coords) : Memref sig .scVector .hbm S32768 .f32 := (oV).slice (rectK L) (fun _ => rfl)

/-- The elements the task addresses are the chunk's. -/
theorem rectK_eq : rectK L = Rect.part (s := S1048576) (a₀ := 0) chunks (chunkAt L) := by
  unfold rectK Rect.part Rect.block
  congr 1 <;> funext a
  · rw [k0_off1_eq]
    match a with
    | 0 =>
      show 65536 * (L 1).val + 32768 * (L 0).val = (2 * (L 1).val + (L 0).val) * 32768
      omega
  · match a with
    | 0 => simp [Shape.partSize]

/-- The input window's elements are the chunk's. -/
theorem set_xK : (xK L).view.set = chunkSet (chunkAt L) := by
  show ((View.whole (main_v0_scv : Ref sig .scVector)).slice (rectK L)).set = _
  rw [View.set_slice, rectK_eq]; exact Finset.map_refl
/-- The output window's elements are the chunk's. -/
theorem set_oK : (oK L).view.set = chunkSet (chunkAt L) := by
  show ((View.whole (main_v4_scv : Ref sig .scVector)).slice (rectK L)).set = _
  rw [View.set_slice, rectK_eq]; exact Finset.map_refl

/-- Holding the input window is holding the input's chunk. -/
theorem pts_xK (f : Buf (Elt F) (xLoc d)) :
    ((xK L).view.loc (thr d L) ↦[(xK L).view.set]{fullShare} f : sProp 𝕄) = xLoc d ↦[chunkSet (chunkAt L)]{fullShare} f := by
  rw [set_xK]
/-- Holding the output window is holding the output's chunk. -/
theorem pts_oK (f : Buf (Elt F) (oLoc d)) :
    ((oK L).view.loc (thr d L) ↦[(oK L).view.set]{fullShare} f : sProp 𝕄) = oLoc d ↦[chunkSet (chunkAt L)]{fullShare} f := by
  rw [set_oK]
/-- The table as the task names it is the device's table. -/
theorem pts_tV (q : PosShare TreeShare) (f : Buf (Elt F) (tLoc d)) :
    ((tV).view.loc (thr d L) ↦{q} f : sProp 𝕄) = tLoc d ↦{q} f := rfl
/-- The chunk's scratch as the task names it is the subcore's first scratch buffer. -/
theorem pts_cV (f : Buf (Elt F) ((thr d L).loc cc0_scratch0)) :
    ((cV).view.loc (thr d L) ↦{fullShare} f : sProp 𝕄) = (thr d L).loc cc0_scratch0 ↦{fullShare} f := rfl
/-- The table's scratch as the task names it is the subcore's second scratch buffer. -/
theorem pts_bV (f : Buf (Elt F) ((thr d L).loc cc0_scratch1)) :
    ((bV).view.loc (thr d L) ↦{fullShare} f : sProp 𝕄) = (thr d L).loc cc0_scratch1 ↦{fullShare} f := rfl

/-! ## The subcore's own semaphores and scratch -/

/-- The semaphore of the table's copy. -/
abbrev cell0 (d : Dev nD) (c : Fin τ.nSC) (i : Fin τ.nSub) : GSem nD τ sig := (V d c i, .dma cc0_scoped0.sem)
/-- The semaphore of the copy of the chunk in. -/
abbrev cell1 (d : Dev nD) (c : Fin τ.nSC) (i : Fin τ.nSub) : GSem nD τ sig := (V d c i, .dma cc0_scoped1.sem)
/-- The semaphore of the copy of the chunk out. -/
abbrev cell2 (d : Dev nD) (c : Fin τ.nSC) (i : Fin τ.nSub) : GSem nD τ sig := (V d c i, .dma cc0_scoped2.sem)

/-- The subcore's semaphores, all at zero: the three copies' and the rest. -/
theorem ownSems0_V :
    (ownSems0 (thr d L) : sProp 𝕄)
      = iprop(semVal (cell0 d (core L) (tile L)) 0 ∗ semVal (cell1 d (core L) (tile L)) 0 ∗ semVal (cell2 d (core L) (tile L)) 0
          ∗ bigSep ((((ownCells (thr d L)).erase (cell0 d (core L) (tile L))).erase (cell1 d (core L) (tile L))).erase (cell2 d (core L) (tile L)))
              fun g => semVal g 0) := by
  unfold SparseCore.Cfg.ownSems0
  rw [SparseCore.bigSep_erase' ((mem_ownCells (g := cell0 d (core L) (tile L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (core L) (tile L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (core L) (tile L))).mpr ⟨rfl, by show (SemLoc.dma cc0_scoped2.sem : SemLoc sig).isScoped .scVector = true; decide⟩⟩⟩)]

/-- The two scratch buffers, at some contents, and the rest of the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (core L) (tile L))).erase ((Proc.scVector (core L) (tile L)).devRef cc0_scratch0)).erase
              ((Proc.scVector (core L) (tile L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (core L) (tile L))
    (b := (Proc.scVector (core L) (tile L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (core L) (tile L)) (b := (Proc.scVector (core L) (tile L)).devRef cc0_scratch1) rfl⟩)]

variable [FloatOps F]

/-! ## One trip's values -/

/-- The sixteen table positions a trip computes are in range. -/
theorem chk (v : Vec F S16 .f32) : k0_chk1 (k0_pay1 v) := fun a x => by
  obtain rfl : a = 0 := Fin.eq_zero a
  exact (slot (v x) 0).isLt

/-- What the sixteen-lane lookup reads: the table's entry for each lane. -/
theorem loadIdx_eq (tab : Vec F S32 .f32) (v : Vec F S16 .f32) (h : ∀ a x, ((![k0_pay1 v] : Fin 1 → IVec S16 32) a x).toNat < S32.size a) :
    loadIdx tab ![k0_pay1 v] h = fun x => entry tab (v x) :=
  funext fun x => congrArg tab (funext fun a => by obtain rfl : a = 0 := Fin.eq_zero a; rfl)

/-- The chunk read out of the flat input. -/
abbrev chunkIn (x : Buf (Elt F) (xLoc d)) : Vec F S32768 .f32 := (xK L).view.read (Elt F) x

/-- What the flat output holds: the table's entry for each element of the flat input. -/
def outOf (tab : Vec F S32 .f32) (x : Vec F S1048576 .f32) : Vec F S1048576 .f32 := fun k => entry tab (x k)

variable (xs : (d : Dev nD) → Buf (Elt F) (xLoc d)) (ts : (d : Dev nD) → Buf (Elt F) (tLoc d)) (os : (d : Dev nD) → Buf (Elt F) (oLoc d))

/-- What a task is handed and hands back: its chunk of the input, its share of the table, its chunk of the output at `o`. -/
def taskPts (d : Dev nD) (k : Fin 32) (o : Buf (Elt F) (oLoc d)) : sProp 𝕄 :=
  iprop((xLoc d ↦[chunkSet k]{fullShare} xs d) ∗ (tLoc d ↦{ShareLeaves.leaf 5 fullShare k} ts d) ∗ (oLoc d ↦[chunkSet k]{fullShare} o))

/-- The loop's invariant: after `t` trips the scratch holds the chunk with its first `16 t` elements looked up. -/
def inv (t : Nat) (_ : PUnit) : sProp 𝕄 :=
  iprop(((cV).view.loc (thr d L) ↦{fullShare} mid (ts d) (chunkIn d L (xs d)) t) ∗ ((bV).view.loc (thr d L) ↦{fullShare} ts d))

/-- The store of trip `t`, as contents of the scratch: the chunk one trip on. -/
theorem store_eq (tab : Vec F S32 .f32) (x : Vec F S32768 .f32) (t : Fin k0_t1_loop.trips) (w : Vec F S16 .f32)
    (hw : w = fun y => entry tab (((cV).access (Rect.unit (s := S32768) (k0_off2 t) S16.size (k0_off2_inb t))).read (Elt F) (mid tab x t.val) y)) :
    ((cV).access (Rect.unit (s := S32768) (k0_off3 t) S16.size (k0_off3_inb t))).write (Elt F) (mid tab x t.val) w Finset.univ = mid tab x (t.val + 1) := by
  subst hw
  have h := mid_step (View.whole (cc0_scratch0 : Ref sig .scVector)) tab x t.val (k0_off3_inb t) (k0_off3_eq t) (mid tab x t.val) (View.read_whole _ _)
  rw [View.read_whole] at h
  refine Eq.trans ?_ h
  congr 1

/-- The same, the stored lanes as the trip computes them. -/
theorem stored_eq (tab : Vec F S32 .f32) (x : Vec F S32768 .f32) (t : Fin k0_t1_loop.trips) (h) :
    ((cV).access (Rect.unit (s := S32768) (k0_off3 t) S16.size (k0_off3_inb t))).write (Elt F) (mid tab x t.val)
      (loadIdx (((bV).access (Rect.whole S32)).read (Elt F) tab)
        ![k0_pay1 (((cV).access (Rect.unit (s := S32768) (k0_off2 t) S16.size (k0_off2_inb t))).read (Elt F) (mid tab x t.val))] h)
      Finset.univ = mid tab x (t.val + 1) :=
  store_eq tab x t _ ((loadIdx_eq _ _ _).trans (by rw [show ((bV).access (Rect.whole S32)).read (Elt F) tab = tab from read_access_whole cc0_scratch1 tab]; rfl))

/-- The output's chunk, the looked-up chunk copied into it: the whole output's contents there. -/
theorem out_eq (tab : Vec F S32 .f32) (x o : Vec F S1048576 .f32) (w : Vec F S32768 .f32)
    (hw : w = fun k => entry tab (chunkIn (F := F) d L x k)) :
    ∀ i ∈ (oK L).view.set, (oK L).view.writes (Elt F) o [⟨Rect.whole S32768, w⟩] i = outOf tab x i := fun i hi => by
  obtain ⟨y, -, rfl⟩ := Finset.mem_map.mp hi
  have hr : ∀ g : Vec F S1048576 .f32, (oK L).view.read (Elt F) g y = g ((oK L).view.emb y) := fun g => rfl
  exact (hr _).symm.trans (congrFun ((read_writes_whole (oK L).view o w).trans hw) y)

set_option maxRecDepth 16384 in
set_option maxHeartbeats 4000000 in
/-- One trip of the loop: sixteen elements loaded, looked up in the table, stored back where they were. -/
theorem trip (t : Fin k0_t1_loop.trips) :
    inv d L xs ts t.val ⟨⟩
      ⊢ wp frame (wpE (defs₀ (F := F)) 𝒱₀ (thr d L) none) Set.univ
          (k0_t1_body L xV (Memref.isWhole_whole _) tV (Memref.isWhole_whole _) oV (Memref.isWhole_whole _)
            cV (Memref.isWhole_whole _) bV (Memref.isWhole_whole _) cc0_scoped0 cc0_scoped1 cc0_scoped2 t ⟨⟩)
          (inv d L xs ts (t.val + 1)) := by
  unfold k0_t1_body inv
  simp only [Prog.lift, Prog.bind_op, Prog.bind_ret, Prog.pure_eq_ret]
  iintro ⟨Hc, Hb⟩
  iapply (wp_load_rect 𝒱₀ (thr d L) none Set.univ (m := cV) (r := Rect.unit (s := S32768) (k0_off2 t) S16.size (k0_off2_inb t)) (S := Finset.univ) (Finset.subset_univ _)) $$ Hc; iintro Hc
  rw [wp_assume_of _ _ _ _ (chk _)]
  iapply (SparseCore.wp_vectorLoadIdx 𝒱₀ (thr d L) none Set.univ (base := bV) (S := Finset.univ) (q := fullShare) (Finset.subset_univ _)) $$ Hb; iintro Hb
  iapply (wp_load_rect 𝒱₀ (thr d L) none Set.univ (m := cV) (r := Rect.unit (s := S32768) (k0_off3 t) S16.size (k0_off3_inb t)) (S := Finset.univ) (Finset.subset_univ _)) $$ Hc; iintro Hc
  iapply (wp_store 𝒱₀ (thr d L) none Set.univ (m := cV) (r := Rect.unit (s := S32768) (k0_off3 t) S16.size (k0_off3_inb t)) (Mk := Finset.univ) (S := Finset.univ) (Finset.subset_univ _)) $$ Hc; iintro Hc
  rw [wp_ret]; imodintro
  isplitl [Hc]
  · iapply (Entails.of_eq (congrArg (fun f => ((cV).view.loc (thr d L) ↦{fullShare} f : sProp 𝕄))
      (stored_eq (ts d) (chunkIn d L (xs d)) t _)))
    iexact Hc
  · iexact Hb

set_option maxHeartbeats 4000000 in
/-- One subcore's whole task: from its chunk of the input, its share of the table and its chunk of the output, it ends
    with the output's chunk holding the table's entries, everything else back and its semaphores at zero. -/
theorem body (hF : (K (F := F)).Facts) (O : CellTallies nD τ sig (HIx 1)) (W : Waits sig (HIx 1)) (hO : ∀ g, O g none = 0) :
    iprop(levAts (K (F := F)).L (K (F := F)).lev ∗ emp ∗ taskPts xs ts d (chunkAt L) (os d)
        ∗ scopedBufs (thr d L) ∗ scopedSems0 (thr d L) ∗ owes (thr d L) O W)
      ⊢ wp frame (wpE (defs₀ (F := F)) 𝒱₀ (thr d L) none) Set.univ
          (cc0__sc_bin_lookup L xV (Memref.isWhole_whole _) tV (Memref.isWhole_whole _) oV (Memref.isWhole_whole _)
            cV (Memref.isWhole_whole _) bV (Memref.isWhole_whole _) cc0_scoped0 cc0_scoped1 cc0_scoped2)
          fun _ => iprop(taskPts xs ts d (chunkAt L) (outOf (ts d) (xs d))
            ∗ scopedBufs (thr d L) ∗ scopedSems0 (thr d L)
            ∗ ∃ W', ⌜∀ p ∈ W', p ∈ W ∨ p.2 = none⌝ ∗ owes (thr d L) O W') := by
  simp only [cc0__sc_bin_lookup_eq_skeleton]; unfold cc0__sc_bin_lookup_skel
  rw [(K (F := F)).scopedBufs_V hF d (core L) (tile L), SparseCore.Cfg.scopedSems0_V (Val := Elt F) d (core L) (tile L), ownSems0_V, ownBufs_V]
  unfold taskPts
  iintro ⟨#Hlv, -, ⟨Hx, Ht, Ho⟩, ⟨⟨%fc, Hc⟩, ⟨%fb, Hb⟩, Hbufs⟩, ⟨Hsem0, Hsem1, Hsem2, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (pts_xK (F := F) d L _).symm) $$ Hx
  ihave Ho' := (Entails.of_eq (pts_oK (F := F) d L _).symm) $$ Ho
  ihave Ht' := (Entails.of_eq (pts_tV (F := F) d L _ _).symm) $$ Ht
  ihave Hc' := (Entails.of_eq (pts_cV (F := F) d L _).symm) $$ Hc
  ihave Hb' := (Entails.of_eq (pts_bV (F := F) d L _).symm) $$ Hb
  sl_exec
  sl_for (inv d L xs ts) $$ [Hc' Hb']
  case region => exact fun t _ => trip d L xs ts t
  · unfold inv
    isplitl [Hc']
    · iapply (Entails.of_eq (congrArg (fun f => ((cV).view.loc (thr d L) ↦{fullShare} f : sProp 𝕄)) (show
        View.write (Elt F) (cV).view fc (body.sl.dma0_1 d L xs) Finset.univ = mid (ts d) (chunkIn d L (xs d)) 0 from
          (View.write_whole_univ _ _ _).trans (mid_zero _ _).symm))); iexact Hc'
    · iapply (Entails.of_eq (congrArg (fun f => ((bV).view.loc (thr d L) ↦{fullShare} f : sProp 𝕄)) (show
        View.write (Elt F) (bV).view fb (body.sl.dma0 d ts) Finset.univ = ts d from
          View.write_whole_univ _ _ _))); iexact Hb'
  iintro %_ HI
  ihave HI' := (Entails.of_eq (show inv d L xs ts (Scf.trips k0_t1_loop.lb k0_t1_loop.ub k0_t1_loop.st) PUnit.unit
    = iprop(((cV).view.loc (thr d L) ↦{fullShare} (fun k => entry (ts d) (chunkIn d L (xs d) k))) ∗ ((bV).view.loc (thr d L) ↦{fullShare} ts d)) by
      unfold inv; rw [show Scf.trips k0_t1_loop.lb k0_t1_loop.ub k0_t1_loop.st = 2048 by decide, mid_all])) $$ HI
  icases HI' with ⟨Hc', Hb'⟩
  sl_exec
  sl_step
  isplitl [Hx' Ht' Ho']
  · isplitl [Hx']; · iapply (Entails.of_eq (pts_xK (F := F) d L _)); iexact Hx'
    isplitl [Ht']; · iapply (Entails.of_eq (pts_tV (F := F) d L _ _)); iexact Ht'
    iapply (Entails.of_eq (pts_oK (F := F) d L _))
    iapply (Entails.of_eq (pointsTo_congr (out_eq d L (ts d) (xs d) (os d) (body.sl.dma0_2 d L xs ts) rfl)))
    iexact Ho'
  isplitl [Hc' Hb' Hbufs]
  · isplitl [Hc']; · iexists _; iexact Hc'
    isplitl [Hb']; · iexists _; iexact Hb'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.KernelIdeal.Task

end
-- ==== Proof.KernelIdealLaunch.lean ====
/-
  The launch. What the one call gives each SparseCore and each of its subcores, how the chunks and the shares of the
  table put together are the whole arrays, `main` on the TensorCore, and the program's run: from any memory it ends with
  the result at the looked-up input, the three arguments as they were, and every semaphore at zero.
-/
module

public import proofs.«01_k».proof.Proof.KernelIdealTask

@[expose] public section

noncomputable section

namespace Cert.KernelIdeal.Launch

open Cert.KernelIdeal Cert.KernelIdeal.Gen Cert.KernelIdeal.Task Cert.Proof.Lookup

open Idealize.ShloMosaic
open Idealize.ShloMosaic.SparseCore (S V T)
open Idealize.ShloMosaic.SparseCore.Cfg (HIx Pay)
open Idealize.ShloMosaic.StableHlo (held after after_cons after_nil seq wp_seq held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (xs : (d : Dev nD) → Buf (Elt F) (xLoc d)) (ts : (d : Dev nD) → Buf (Elt F) (tLoc d)) (os : (d : Dev nD) → Buf (Elt F) (oLoc d))

/-! ## What the call hands over -/

/-- The task of subcore `i` of SparseCore `c`, the output's chunk at `o`. -/
abbrev tileShare (d : Dev nD) (c : Fin ((K (F := F)).nCore 0)) (i : Fin ((K (F := F)).nSub 0)) (o : Buf (Elt F) (oLoc d)) : sProp 𝕄 :=
  taskPts xs ts d (chunkOf (Fin.cast (show (K (F := F)).nCore 0 = 2 from rfl) c) (Fin.cast (show (K (F := F)).nSub 0 = 16 from rfl) i)) o

/-- A task's part can be handed over by a signal. -/
instance taskPts_storable (d : Dev nD) (k : Fin 32) (o : Buf (Elt F) (oLoc d)) : BI.Storable (upEmb : UEmb _ 𝕄) (taskPts xs ts d k o) := by
  unfold taskPts; infer_instance

/-- Each subcore is handed its chunk of the input and of the output and its share of the table, and hands them back with the
    output's chunk looked up; a SparseCore is handed its sixteen subcores' together. -/
def P : (K (F := F)).Pay (nD := nD) (Val := Elt F) (Name := ℕ) (U := UU) where
  st := fun q d c => match q with | 0 => bigSep Finset.univ fun i => tileShare xs ts d c i (os d)
  dn := fun q d c => match q with | 0 => bigSep Finset.univ fun i => tileShare xs ts d c i (outOf (ts d) (xs d))
  go := fun q d c i => match q with | 0 => tileShare xs ts d c i (os d)
  td := fun q d c i => match q with | 0 => tileShare xs ts d c i (outOf (ts d) (xs d))
  x := fun _ _ => iprop(emp)

/-- All that the call hands over can. -/
instance P_storable : (P xs ts os).IsStorable where
  st q d c := match q with
    | 0 => (inferInstance : BI.Storable (upEmb : UEmb _ 𝕄) (bigSep Finset.univ fun i => tileShare xs ts d c i (os d)))
  dn q d c := match q with
    | 0 => (inferInstance : BI.Storable (upEmb : UEmb _ 𝕄) (bigSep Finset.univ fun i => tileShare xs ts d c i (outOf (ts d) (xs d))))
  go q d c i := match q with | 0 => (inferInstance : BI.Storable (upEmb : UEmb _ 𝕄) (tileShare xs ts d c i (os d)))
  td q d c i := match q with | 0 => (inferInstance : BI.Storable (upEmb : UEmb _ 𝕄) (tileShare xs ts d c i (outOf (ts d) (xs d))))

/-! ## The call's obligations -/

/-- The pair (core, subcore) as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs: the kernel's body at its pair. -/
theorem defs₀_vector (c : Fin τ.nSC) (s : Fin τ.nSub) :
    defs₀ (F := F) (.scVector c s) 0 ()
      = SparseCore.onTile hcore0 hsub0 (fun c s => cc0__sc_bin_lookup (coordsV c s)
          (Memref.whole main_v0_scv) (Memref.isWhole_whole _) (Memref.whole main_v3_scv) (Memref.isWhole_whole _)
          (Memref.whole main_v4_scv) (Memref.isWhole_whole _) (Memref.whole cc0_scratch0) (Memref.isWhole_whole _)
          (Memref.whole cc0_scratch1) (Memref.isWhole_whole _) cc0_scoped0 cc0_scoped1 cc0_scoped2) ⟨⟩ c s := rfl

/-- A task that waited only on its own copies meets the looser bound of what it may have waited on. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task meets what the call asks of it: the one run at a symbolic pair. -/
theorem tileObl (hF : (K (F := F)).Facts) : (K (F := F)).TileObl (D (F := F)) 𝒱 (P xs ts os) v₀ 0 := by
  intro d c i O W hO _ _
  simp only [show (P xs ts os).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (body d (coordsV ⟨_, hci.1⟩ ⟨_, hci.2⟩) xs ts os hF O W hO).trans (wp_mono frame _ _ fun _ => obl_post)

/-- A SparseCore's part is its subcores' together, before and after. -/
theorem vecSplit : (K (F := F)).VecSplit' (P xs ts os) 0 := by
  intro d c
  show (bigSep Finset.univ fun i => tileShare xs ts d c i (os d)) ⊢ |={Set.univ}=> iprop(
      (bigSep Finset.univ fun i => tileShare xs ts d c i (os d))
      ∗ ((bigSep Finset.univ fun i => tileShare xs ts d c i (outOf (ts d) (xs d)))
          -∗ (bigSep Finset.univ fun i => tileShare xs ts d c i (outOf (ts d) (xs d)))))
  iintro H; imodintro
  isplitl [H]; · iexact H
  iintro H; iexact H

/-! ## The chunks and the shares put together -/

/-- The whole input is its thirty-two chunks. -/
theorem xPts_chunks (d : Dev nD) (f : Buf (Elt F) (xLoc d)) :
    (xLoc d ↦{fullShare} f : sProp 𝕄) = bigSep Finset.univ fun k : Fin 32 => xLoc d ↦[chunkSet k]{fullShare} f := by
  rw [← pointsTo_biUnion Finset.univ (ℓ := xLoc d) chunkSet chunkSet_disjoint, chunkSet_cover]
/-- The whole output is its thirty-two chunks. -/
theorem oPts_chunks (d : Dev nD) (f : Buf (Elt F) (oLoc d)) :
    (oLoc d ↦{fullShare} f : sProp 𝕄) = bigSep Finset.univ fun k : Fin 32 => oLoc d ↦[chunkSet k]{fullShare} f := by
  rw [← pointsTo_biUnion Finset.univ (ℓ := oLoc d) chunkSet chunkSet_disjoint, chunkSet_cover]
/-- The whole table is thirty-two shares of it. -/
theorem tPts_shares (d : Dev nD) (f : Buf (Elt F) (tLoc d)) :
    (tLoc d ↦{fullShare} f : sProp 𝕄) = bigSep Finset.univ fun k : Fin 32 => tLoc d ↦{ShareLeaves.leaf 5 fullShare k} f :=
  ShareLeaves.pointsTo_leaves Finset.univ f 5 fullShare

/-- The pairs (core, subcore) number the chunks. -/
def pairs : Fin 2 × Fin 16 ≃ Fin 32 where
  toFun p := chunkOf p.1 p.2
  invFun k := (⟨k.val % 2, by omega⟩, ⟨k.val / 2, by omega⟩)
  left_inv p := by
    obtain ⟨⟨c, hc⟩, ⟨i, hi⟩⟩ := p
    simp only [chunkOf, Prod.mk.injEq, Fin.mk.injEq]; omega
  right_inv k := by
    apply Fin.ext; simp only [chunkOf]; omega

/-- All the tasks' parts together are the whole input, the whole table and the whole output. -/
theorem tasks_eq (d : Dev nD) (o : Buf (Elt F) (oLoc d)) :
    (bigSep Finset.univ fun c : Fin 2 => bigSep Finset.univ fun i : Fin 16 => taskPts xs ts d (chunkOf c i) o)
      = iprop((xLoc d ↦{fullShare} xs d) ∗ (tLoc d ↦{fullShare} ts d) ∗ (oLoc d ↦{fullShare} o) : sProp 𝕄) := by
  rw [← bigSep_univ_prod (fun p : Fin 2 × Fin 16 => taskPts xs ts d (chunkOf p.1 p.2) o),
    show (fun p : Fin 2 × Fin 16 => taskPts xs ts d (chunkOf p.1 p.2) o) = fun p => taskPts xs ts d (pairs p) o from rfl,
    ← bigSep_univ_equiv pairs (fun k => taskPts xs ts d k o)]
  unfold taskPts
  rw [bigSep_sep', bigSep_sep', ← xPts_chunks, ← oPts_chunks, ← tPts_shares]

/-- What the call takes for the two SparseCores: the whole input, table and output. -/
theorem st0_eq (d : Dev nD) : (bigSep Finset.univ fun c : Fin ((K (F := F)).nCore 0) => (P xs ts os).st 0 d c)
    = iprop((xLoc d ↦{fullShare} xs d) ∗ (tLoc d ↦{fullShare} ts d) ∗ (oLoc d ↦{fullShare} os d)) := tasks_eq xs ts d (os d)
/-- What the two SparseCores hand back: the input, the table, and the output looked up. -/
theorem dn0_eq (d : Dev nD) : (bigSep Finset.univ fun c : Fin ((K (F := F)).nCore 0) => (P xs ts os).dn 0 d c)
    = iprop((xLoc d ↦{fullShare} xs d) ∗ (tLoc d ↦{fullShare} ts d) ∗ (oLoc d ↦{fullShare} outOf (ts d) (xs d))) := tasks_eq xs ts d _

/-! ## The launch element: the handshakes' rounds; nothing of the kernel's own -/

/-- The resources at launch: the handshakes' first rounds. -/
def u₀ : UU := (initOf (K (F := F)).hsCells (K (F := F)).hsToks, 1)

/-- Nothing, however many times, is nothing. -/
theorem many_nothing {I : Type} (s : Finset I) : (bigSep s fun _ => iprop(emp)) = (iprop(emp) : sProp 𝕄) := bigSep_emp_const s

/-- They are all the launch asks for; the kernel's threads need none of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P xs ts os).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [many_nothing]; iempintro
  rw [show (bigSep Finset.univ fun thr : Thread nD τ => bigSep Finset.univ fun q : Fin 1 => (P xs ts os).x q thr) = bigSep Finset.univ fun _ => iprop(emp) from
    bigSep_congr fun _ _ => bigSep_univ_of_subsingleton (0 : Fin 1), many_nothing]
  iempintro

/-! ## `main` on the TensorCore -/

/-- The operations before the call: the input flattened, the table padded to thirty-two entries. -/
abbrev opsIn : List (HloOp τ sig (Elt F)) :=
  [StableHlo.reshape main_arg0 main_v0 (rfl : (.f32 : EltTy) = .f32) shapeCasts_S16x256x256_S1048576,
   StableHlo.nullary main_cst (constant S_ .f32 0x00000000#32),
   StableHlo.unary main_cst main_v1 (broadcastInDim S32 ![] bcast_S_S32 : (⟨S_, .f32⟩ : BufTy).Contents (Elt F) → (⟨S32, .f32⟩ : BufTy).Contents (Elt F)),
   StableHlo.nullary main_c (constantI S_ 32 0#32),
   StableHlo.unary main_c main_v2 (broadcastInDim S1 ![] bcast_S_S1 : (⟨S_, .i32⟩ : BufTy).Contents (Elt F) → (⟨S1, .i32⟩ : BufTy).Contents (Elt F)),
   StableHlo.ternary main_v1 main_v2 main_arg2 main_v3 ((fun x i u => Host.scatter scatter_S32_S1_S21_0_n_0_0 (fun _ b => b) x i u) : (⟨S32, .f32⟩ : BufTy).Contents (Elt F) → (⟨S1, .i32⟩ : BufTy).Contents (Elt F) → (⟨S21, .f32⟩ : BufTy).Contents (Elt F) → (⟨S32, .f32⟩ : BufTy).Contents (Elt F))]

/-- The one after it: the flat output in the result's shape. -/
abbrev opsOut : List (HloOp τ sig (Elt F)) :=
  [StableHlo.reshape main_v4 main_v5 (rfl : (.f32 : EltTy) = .f32) shapeCasts_S1048576_S16x1x256x256]

/-- `main` is its operations before the call, the call, and the reshape after it. -/
theorem main_eq (d : Dev nD) : main (F := F) d = (seq opsIn >>= fun _ => sc.run d 0 >>= fun _ => seq opsOut >>= fun _ => pure ⟨⟩) := rfl

/-- An array of the TensorCore's, as the device names it. -/
abbrev dr (b : Ref sig .tc) : DevRef τ sig := Proc.devRef .tc b

/-- `main`'s arrays, none of them scoped. -/
abbrev SM : Finset (DevRef τ sig) :=
  {dr main_arg0, dr main_arg1, dr main_arg2, dr main_v0, dr main_cst, dr main_v1, dr main_c, dr main_v2, dr main_v3, dr main_v4, dr main_v5}
/-- The three the call is handed. -/
abbrev SC : Finset (DevRef τ sig) := {dr main_v0, dr main_v3, dr main_v4}
/-- The three arguments and the result. -/
abbrev SF : Finset (DevRef τ sig) := {dr main_arg0, dr main_arg1, dr main_arg2, dr main_v5}

variable (m : (ℓ : Loc nD τ sig) → Buf (Elt F) ℓ) (ρ : Dev nD → PrngReg)

/-- What the arrays hold at launch, -/
def V0 (d : Dev nD) : Valuation τ sig (Elt F) := fun b => m (d, b)
/-- at the call, -/
def V1 (d : Dev nD) : Valuation τ sig (Elt F) := after opsIn (V0 m d)
/-- after it, -/
def V2 (d : Dev nD) : Valuation τ sig (Elt F) := Function.update (V1 m d) (dr main_v4) (outOf (F := F) (V1 m d (dr main_v3)) (V1 m d (dr main_v0)))
/-- and at the end. -/
def V3 (d : Dev nD) : Valuation τ sig (Elt F) := after opsOut (V2 m d)

/-- The flat input at the call. -/
def xsOf (d : Dev nD) : Buf (Elt F) (xLoc d) := V1 m d (dr main_v0)
/-- The table at the call. -/
def tsOf (d : Dev nD) : Buf (Elt F) (tLoc d) := V1 m d (dr main_v3)
/-- The output at the call. -/
def osOf (d : Dev nD) : Buf (Elt F) (oLoc d) := V1 m d (dr main_v4)

/-- The operations before the call touch only `main`'s arrays, -/
theorem opsIn_sub : ∀ op ∈ opsIn (F := F), op.bufs ⊆ SM := by
  simp only [List.forall_mem_cons, List.not_mem_nil, false_implies, implies_true, and_true]
  exact ⟨show ({dr main_arg0, dr main_v0} : Finset (DevRef τ sig)) ⊆ SM by decide,
    show ({dr main_cst} : Finset (DevRef τ sig)) ⊆ SM by decide,
    show ({dr main_cst, dr main_v1} : Finset (DevRef τ sig)) ⊆ SM by decide,
    show ({dr main_c} : Finset (DevRef τ sig)) ⊆ SM by decide,
    show ({dr main_c, dr main_v2} : Finset (DevRef τ sig)) ⊆ SM by decide,
    show ({dr main_v1, dr main_v2, dr main_arg2, dr main_v3} : Finset (DevRef τ sig)) ⊆ SM by decide⟩
/-- and make no array of their own. -/
theorem opsIn_fresh : ∀ op ∈ opsIn (F := F), op.fresh = ∅ := by
  simp only [List.forall_mem_cons, List.not_mem_nil, false_implies, implies_true, and_true]
  exact ⟨rfl, rfl, rfl, rfl, rfl, rfl⟩
/-- The reshape touches only `main`'s arrays, -/
theorem opsOut_sub : ∀ op ∈ opsOut (F := F), op.bufs ⊆ SM := by
  simp only [List.forall_mem_cons, List.not_mem_nil, false_implies, implies_true, and_true]
  exact show ({dr main_v4, dr main_v5} : Finset (DevRef τ sig)) ⊆ SM by decide
/-- and makes no array of its own. -/
theorem opsOut_fresh : ∀ op ∈ opsOut (F := F), op.fresh = ∅ := by
  simp only [List.forall_mem_cons, List.not_mem_nil, false_implies, implies_true, and_true]
  rfl

/-- The arrays the launch gives `main` are its eleven, as the memory holds them. -/
theorem unscoped_held (d : Dev nD) : (unscopedBufs d (fun b => m ((SparseCore.T d).loc b)) : sProp 𝕄) = held (T d) SM (V0 m d) := by
  unfold unscopedBufs held SM
  rw [show (Finset.univ.filter fun b : Ref sig .tc => ¬ b.isScoped)
      = {main_arg0, main_arg1, main_arg2, main_v0, main_cst, main_v1, main_c, main_v2, main_v3, main_v4, main_v5} by decide]
  repeat rw [SparseCore.bigSep_insert' (by decide), SparseCore.bigSep_insert' (by decide)]
  rw [bigSep_singleton, bigSep_singleton]; rfl

/-- The three arrays of the call, one by one. -/
theorem held_SC (d : Dev nD) (W : Valuation τ sig (Elt F)) :
    (held (T d) SC W : sProp 𝕄) = iprop((xLoc d ↦{fullShare} W (dr main_v0)) ∗ (tLoc d ↦{fullShare} W (dr main_v3)) ∗ (oLoc d ↦{fullShare} W (dr main_v4))) := by
  unfold held SC
  rw [SparseCore.bigSep_insert' (by decide), SparseCore.bigSep_insert' (by decide), bigSep_singleton]

/-- `main`'s arrays at the call: the call's three, and the others. -/
theorem held_V1 (d : Dev nD) :
    (held (T d) SM (V1 m d) : sProp 𝕄) = iprop(((xLoc d ↦{fullShare} xsOf m d) ∗ (tLoc d ↦{fullShare} tsOf m d)
      ∗ (oLoc d ↦{fullShare} osOf m d)) ∗ held (T d) (SM \ SC) (V1 m d)) := by
  rw [held_sub_split (T d) (T := SC) (S := SM) (by decide), held_SC]; rfl
/-- `main`'s arrays after the call: the call's three, the output looked up, and the others as they were. -/
theorem held_V2 (d : Dev nD) :
    (held (T d) SM (V2 m d) : sProp 𝕄) = iprop(((xLoc d ↦{fullShare} xsOf m d) ∗ (tLoc d ↦{fullShare} tsOf m d)
      ∗ (oLoc d ↦{fullShare} outOf (F := F) (tsOf m d) (xsOf m d))) ∗ held (T d) (SM \ SC) (V1 m d)) := by
  rw [held_sub_split (T d) (T := SC) (S := SM) (by decide), held_SC,
    held_congr (T d) (S := SM \ SC) (V := V2 m d) (V' := V1 m d) fun b hb => Function.update_of_ne (fun e => by subst e; exact absurd hb (by decide)) _ _]
  unfold V2
  rw [Function.update_self, Function.update_of_ne (show dr main_v0 ≠ dr main_v4 by decide), Function.update_of_ne (show dr main_v3 ≠ dr main_v4 by decide)]
  rfl

/-- What `main` leaves the claim: the arguments and the result. -/
abbrev FIN (d : Dev nD) : sProp 𝕄 := held (T d) SF (V3 m d)

/-- `main` on device `d`: the operations before the call, the call, the reshape after it. -/
theorem hmain (κ : GSem nD τ sig → ℕ) (d : Dev nD) :
    iprop((K (F := F)).ctx EH (P (xsOf m) (tsOf m) (osOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d SM _ opsIn opsIn_sub opsIn_fresh (V0 m d)) $$ [Hb Hheld]
  · isplitl [Hb]; · iexact Hb
    iexact Hheld
  iintro ⟨Hb, Hheld⟩
  ihave Hh := (show (held (d.tc : Thread nD τ) SM (after opsIn (V0 m d)) : sProp 𝕄) ⊢ _ from Entails.of_eq (held_V1 m d)) $$ Hheld
  icases Hh with ⟨Hcall, Hrest⟩
  rw [wp_bind]
  iapply ((K (F := F)).wp_run (D (F := F)) 𝒱 (EH := EH) (P := P (xsOf m) (tsOf m) (osOf m)) κ d 0) $$ [Hst Hcall Hrest Hb Hts]
  isplitr; · iexact Hctx
  isplitl [Hst]; · iexact Hst
  isplitl [Hcall]
  · rw [st0_eq]; iexact Hcall
  iintro ⟨Hst, Hdn⟩
  ihave Hdn' := (Entails.of_eq (dn0_eq (xsOf m) (tsOf m) (osOf m) d)) $$ Hdn
  ihave Hheld := (Entails.of_eq (held_V2 m d).symm) $$ [Hdn' Hrest]
  · isplitl [Hdn'] <;> iassumption
  iapply (wp_seq 𝒱 none Set.univ d SM _ opsOut opsOut_sub opsOut_fresh (V2 m d)) $$ [Hb Hheld]
  · isplitl [Hb]; · iexact Hb
    iexact Hheld
  iintro ⟨Hb, Hheld⟩
  ihave Hh := (show (held (d.tc : Thread nD τ) SM (after opsOut (V2 m d)) : sProp 𝕄) ⊢ _ from
    Entails.of_eq (held_sub_split (T d) (T := SF) (S := SM) (by decide) (V3 m d))) $$ Hheld
  icases Hh with ⟨Hfin, -⟩
  rw [wp_pure]; imodintro
  isplitl [Hst]; · iexact Hst
  isplitl [Hfin]; · iexact Hfin
  isplitl [Hb] <;> iassumption

/-! ## What the arrays hold at the end -/

/-- The table the call reads: the argument's twenty-one entries written over thirty-two zeros, from the first on. -/
def table (a : Vec F S21 .f32) : Vec F S32 .f32 :=
  Host.scatter scatter_S32_S1_S21_0_n_0_0 (fun _ b => b) (broadcastInDim S32 ![] bcast_S_S32 (constant S_ .f32 0x00000000#32))
    (broadcastInDim S1 ![] bcast_S_S1 (constantI S_ 32 0#32)) a

/-- The result: the flattened input looked up in the table, in the result's shape. -/
def result (x : Vec F S16x256x256 .f32) (a : Vec F S21 .f32) : Vec F S16x1x256x256 .f32 :=
  shapeCast S16x1x256x256 (outOf (table a) (shapeCast S1048576 x shapeCasts_S16x256x256_S1048576)) shapeCasts_S1048576_S16x1x256x256

/-- An argument ends as it was: nothing writes it. -/
theorem V3_of_arg (d : Dev nD) (b : Ref sig .tc) (h : b ∉ [main_v0, main_cst, main_v1, main_c, main_v2, main_v3, main_v4, main_v5]) :
    V3 m d (dr b) = m ((d.tc : Thread nD τ).loc b) := by
  simp only [List.mem_cons, List.not_mem_nil, or_false, not_or] at h
  obtain ⟨h0, h1, h2, h3, h4, h5, h6, h7⟩ := h
  unfold V3
  simp only [after_cons, after_nil]
  rw [StableHlo.reshape_result_ne _ _ _ _ _ _ _ h7]
  unfold V2
  rw [Function.update_of_ne (StableHlo.devRef_ne_of_ne h6)]
  unfold V1
  simp only [after_cons, after_nil]
  rw [StableHlo.ternary_result_ne (h := h5), StableHlo.unary_result_ne (h := h4), StableHlo.nullary_result_ne (h := h3),
    StableHlo.unary_result_ne (h := h2), StableHlo.nullary_result_ne (h := h1), StableHlo.reshape_result_ne (h := h0)]
  rfl

/-- The call's input is the argument flattened. -/
theorem V1_v0 (d : Dev nD) : V1 m d (dr main_v0)
    = shapeCast S1048576 (m ((d.tc : Thread nD τ).loc main_arg0) : Vec F S16x256x256 .f32) shapeCasts_S16x256x256_S1048576 := by
  unfold V1
  after_results
  rfl
/-- The call's table is the weights padded with zeros. -/
theorem V1_v3 (d : Dev nD) : V1 m d (dr main_v3) = table (F := F) (m ((d.tc : Thread nD τ).loc main_arg2)) := by
  unfold V1
  after_results
  rfl
/-- The result array ends at `result` of the arguments. -/
theorem V3_v5 (d : Dev nD) : V3 m d (dr main_v5) = result (F := F) (m ((d.tc : Thread nD τ).loc main_arg0)) (m ((d.tc : Thread nD τ).loc main_arg2)) := by
  unfold V3
  after_results
  unfold V2
  rw [Function.update_self, V1_v0, V1_v3]
  rfl

/-! ## The program's run -/

/-- The three arguments and the result, one by one. -/
theorem held_SF (d : Dev nD) (W : Valuation τ sig (Elt F)) :
    (held (T d) SF W : sProp 𝕄) = iprop(((d.tc : Thread nD τ).loc main_arg0 ↦{fullShare} W (dr main_arg0))
      ∗ ((d.tc : Thread nD τ).loc main_arg1 ↦{fullShare} W (dr main_arg1)) ∗ ((d.tc : Thread nD τ).loc main_arg2 ↦{fullShare} W (dr main_arg2))
      ∗ (d.tc : Thread nD τ).loc main_v5 ↦{fullShare} W (dr main_v5)) := by
  unfold held SF
  rw [SparseCore.bigSep_insert' (by decide), SparseCore.bigSep_insert' (by decide), SparseCore.bigSep_insert' (by decide), bigSep_singleton]

/-- What the run ends with on device `d`: the result's value and the arguments unchanged. -/
def fq (d : Dev nD) (s' : Phys nD τ sig (Elt F)) : Prop :=
  s'.mem.mem ((d.tc : Thread nD τ).loc main_v5) = result (F := F) (m ((d.tc : Thread nD τ).loc main_arg0)) (m ((d.tc : Thread nD τ).loc main_arg2))
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)

/-- A whole buffer at the full share is what the memory holds, and stays so. -/
theorem agree (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s' ∗ ℓ ↦{fullShare} f) :=
  persistent_entails_right (SI_pointsTo_agree.trans (Laws.pure_mono fun h => funext fun i => h i (Finset.mem_univ i)))

set_option maxRecDepth 16384 in
/-- What `main` leaves gives what the run ends with. -/
theorem hfin (d : Dev nD) (s' : Phys nD τ sig (Elt F)) : iprop(FIN m d ∗ SI s') ⊢ (⌜fq m d s'⌝ : sProp 𝕄) := by
  unfold FIN
  rw [held_SF]
  iintro ⟨⟨H0, H1, H2, H5⟩, HSI⟩
  ihave H := (agree s' _ _) $$ [HSI H0]
  · isplitl [HSI] <;> iassumption
  icases H with ⟨%h0, HSI, -⟩
  ihave H := (agree s' _ _) $$ [HSI H1]
  · isplitl [HSI] <;> iassumption
  icases H with ⟨%h1, HSI, -⟩
  ihave H := (agree s' _ _) $$ [HSI H2]
  · isplitl [HSI] <;> iassumption
  icases H with ⟨%h2, HSI, -⟩
  ihave H := (agree s' _ _) $$ [HSI H5]
  · isplitl [HSI] <;> iassumption
  icases H with ⟨%h5, HSI, -⟩
  ipureintro
  exact ⟨h5.trans (V3_v5 m d), h0.trans (V3_of_arg m d main_arg0 (by decide)), h1.trans (V3_of_arg m d main_arg1 (by decide)),
    h2.trans (V3_of_arg m d main_arg2 (by decide))⟩

/-- What the run ends with: on every device the result's value and the arguments unchanged, and all semaphores at zero. -/
def QC : PUnit × MemSt nD τ sig (Elt F) → Prop := fun r => (∀ c : Dev nD,
  r.2.mem ((c.tc : Thread nD τ).loc main_v5) = result (F := F) (m ((c.tc : Thread nD τ).loc main_arg0)) (m ((c.tc : Thread nD τ).loc main_arg2))
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)) ∧ r.2.sem = fun _ => 0

/-- The run, for any float values and from any memory with zero counters: it terminates with the result at the looked-up
    input, the arguments as they were, and every semaphore at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P (xsOf m) (tsOf m) (osOf m)) (A := ∅) facts v₀
    (fun q hq => match q with | 0 => nomatch hq)
    (fun q _ => match q with | 0 => tileObl (xsOf m) (tsOf m) (osOf m) facts)
    (fun q _ => match q with | 0 => SparseCore.Cfg.VecSplit.of_plain (vecSplit (xsOf m) (tsOf m) (osOf m)))
    m ρ main (fun _ => iprop(emp)) (FIN m) (u₀ (F := F)) (sep_elim_left.trans (hu₀ (xsOf m) (tsOf m) (osOf m))) (hmain m ρ) (fq m) (hfin m) (QC m)
    (fun _ h hz => ⟨h, hz⟩)

end Cert.KernelIdeal.Launch

end
-- ==== Proof.Weight.lean ====
/-
  One element's weight: the entry of the 21 weights at the position the element names.
-/
module

public import proofs.«01_k».proof.Proof.Lookup
public import Idealize.ShloMosaic.Lib.ValueIdxCore

@[expose] public section

noncomputable section

namespace Cert.Proof.Lookup

open Idealize.ShloMosaic Idealize.ShloMosaic.ValueIdx

variable {F : FTy → Type} [FloatOps F]

/-- The position an element names lies among the 21 weights. -/
theorem bin_lt (x : F .f32) : (bin x).toNat < 21 := clip_lt _

/-- The weight of an element. -/
def weight (a : (⟨1, ![21]⟩ : Shape).Idx → F .f32) (x : F .f32) : F .f32 := a (ix1 ⟨(bin x).toNat, bin_lt x⟩)

/-- The input index a result index `(i, 0, j, k)` reads: `(i, j, k)`. -/
def source (j : (⟨4, ![16, 1, 256, 256]⟩ : Shape).Idx) : (⟨3, ![16, 256, 256]⟩ : Shape).Idx := ix3 (j 0) (j 2) (j 3)

/-- A result index and the input index it reads stand at the same place in row-major order. -/
theorem source_rowMajor (j : (⟨4, ![16, 1, 256, 256]⟩ : Shape).Idx) :
    ((⟨3, ![16, 256, 256]⟩ : Shape).rowMajor (source j)).val = ((⟨4, ![16, 1, 256, 256]⟩ : Shape).rowMajor j).val := by
  rw [Shape.rowMajor_val_three, Shape.rowMajor_val_four]
  have h1 : (j 1).val < 1 := (j 1).isLt
  show ((j 0).val * 256 + (j 2).val) * 256 + (j 3).val
    = (((j 0).val * 1 + (j 1).val) * 256 + (j 2).val) * 256 + (j 3).val
  omega

end Cert.Proof.Lookup

end
-- ==== Proof.KernelValue.lean ====
/-
  What the kernel's result holds. The table is the 21 weights, zeros after them; the lookups read only the weights; so
  the result at `(i, 0, j, k)` is the weight of the input at `(i, j, k)`.
-/
module

public import proofs.«01_k».proof.Proof.KernelIdealLaunch
public import proofs.«01_k».proof.Proof.Weight
public import Idealize.ShloMosaic.Lib.Routing.OpsSet
public import Idealize.ShloMosaic.Lib.Pointwise.Reshape

@[expose] public section

noncomputable section

namespace Cert.KernelIdeal.Result

open Cert.KernelIdeal Cert.KernelIdeal.Gen Cert.KernelIdeal.Launch Cert.KernelIdeal.Task Cert.Proof.Lookup Idealize.ShloMosaic.ValueIdx
open Idealize.ShloMosaic hiding ix1 eq_ix1

variable {F : FTy → Type} [FloatOps F]

/-- The scatter's one start index is 0, so update `k` lands at position `k` of the table. -/
theorem lands (k : S21.Idx) :
    scatter_S32_S1_S21_0_n_0_0.resultIdx? k (broadcastInDim S1 ![] bcast_S_S1 (constantI S_ 32 0#32))
      = some (ix1 ⟨(k 0).val, lt_trans (k 0).isLt (by decide)⟩) := by
  have hs : ∀ a, scatter_S32_S1_S21_0_n_0_0.start k (broadcastInDim S1 ![] bcast_S_S1 (constantI S_ 32 0#32)) a = 0 := by
    intro a
    unfold ScatterDims.start
    split <;> rfl
  have hw : ∀ a, scatter_S32_S1_S21_0_n_0_0.window k a = (k 0).val := by
    intro a
    obtain rfl : a = 0 := Subsingleton.elim _ _
    rfl
  have hk : (k 0).val < 21 := (k 0).isLt
  have h : ∀ a, 0 ≤ scatter_S32_S1_S21_0_n_0_0.start k (broadcastInDim S1 ![] bcast_S_S1 (constantI S_ 32 0#32)) a
        + scatter_S32_S1_S21_0_n_0_0.window k a
      ∧ scatter_S32_S1_S21_0_n_0_0.start k (broadcastInDim S1 ![] bcast_S_S1 (constantI S_ 32 0#32)) a
        + scatter_S32_S1_S21_0_n_0_0.window k a < S32.size a := by
    intro a
    rw [hs, hw]
    obtain rfl : a = 0 := Subsingleton.elim _ _
    show 0 ≤ (0 : Int) + ((k 0).val : Int) ∧ (0 : Int) + ((k 0).val : Int) < ((32 : ℕ) : Int)
    omega
  unfold ScatterDims.resultIdx?
  rw [dif_pos h]
  refine congrArg some (funext fun a => Fin.ext ?_)
  obtain rfl : a = 0 := Subsingleton.elim _ _
  have e : scatter_S32_S1_S21_0_n_0_0.start k (broadcastInDim S1 ![] bcast_S_S1 (constantI S_ 32 0#32)) 0
      + scatter_S32_S1_S21_0_n_0_0.window k 0 = (k 0).val := by rw [hs, hw, zero_add]
  exact (congrArg Int.toNat e).trans (Int.toNat_natCast _)

/-- The table's entry at a position among the weights is that weight. -/
theorem table_apply (a : Vec F S21 .f32) (k : S21.Idx) :
    table a (ix1 ⟨(k 0).val, lt_trans (k 0).isLt (by decide)⟩) = a k := by
  refine Routing.scatter_set_hit _ _ _ _ _ (a k) (fun k' h => ?_) k (lands k)
  rw [lands k'] at h
  have e := congrArg (fun i => (i 0).val) (Option.some.inj h)
  rw [eq_ix1 k', eq_ix1 k]
  exact congrArg (fun n => a (ix1 n)) (Fin.ext e)

/-- What the table holds for an element is the element's weight. -/
theorem entry_table (a : Vec F S21 .f32) (x : F .f32) : entry (table a) x = weight a x :=
  (congrArg (table a) (eq_ix1 (slot x))).trans (table_apply a (ix1 ⟨(bin x).toNat, bin_lt x⟩))

/-- The kernel's result at an index: the weight of the input element there. -/
theorem result_apply (x : Vec F S16x256x256 .f32) (a : Vec F S21 .f32) (j : S16x1x256x256.Idx) :
    result x a j = weight a (x (source j)) := by
  have e : shapeCast S16x1x256x256 (shapeCast S1048576 x shapeCasts_S16x256x256_S1048576) shapeCasts_S1048576_S16x1x256x256 j
      = x (source j) := by
    rw [shapeCast_comp]
    exact shapeCast_apply x _ j (source j) (source_rowMajor j)
  exact (congrArg (entry (table a)) e).trans (entry_table a _)

end Cert.KernelIdeal.Result

end
-- ==== Proof.ReferenceValue.lean ====
/-
  What the reference's result holds: at `(i, 0, j, k)` the weight of the input at `(i, j, k)`. The positions are clipped
  to 0 … 20, so the correction of negative positions, the test that a position lies in the table and the gather's own
  clamp all leave them as they are; the last division is by one.
-/
module

public import proofs.«01_k».proof.Proof.Gen.ReferenceIdeal.Run
public import proofs.«01_k».proof.Proof.Weight
public import Idealize.ShloMosaic.Lib.ReduceAll
public import Idealize.ShloMosaic.Lib.IdealHost

@[expose] public section

noncomputable section

namespace Cert.ReferenceIdeal.Result

open Cert.ReferenceIdeal Cert.ReferenceIdeal.Gen Cert.ReferenceIdeal.Value Cert.Proof.Lookup Idealize.ShloMosaic Idealize.ShloMosaic.ValueIdx

/-! ## A position below 21 -/

/-- A position below 21, read signed, is itself. -/
theorem toInt_of_lt {w : BitVec 32} (h : w.toNat < 21) : w.toInt = w.toNat := by
  rw [BitVec.toInt_eq_toNat_cond, if_pos (by omega)]

/-- It is not negative. -/
theorem not_neg {w : BitVec 32} (h : w.toNat < 21) : IntOp.cmpi .slt w 0#32 = 0#1 := by
  have : (0#32 : BitVec 32).toInt = 0 := by decide
  simp only [IntOp.cmpi, BitVec.slt_eq_decide, toInt_of_lt h, this]
  rw [decide_eq_false (by omega)]; rfl

/-- It lies between 0 and 20. -/
theorem in_range {w : BitVec 32} (h : w.toNat < 21) :
    IntOp.andi (IntOp.cmpi .sge w 0#32) (IntOp.cmpi .sle w 20#32) = 1#1 := by
  have h0 : (0#32 : BitVec 32).toInt = 0 := by decide
  have h20 : (20#32 : BitVec 32).toInt = 20 := by decide
  simp only [IntOp.cmpi, BitVec.sle_eq_decide, BitVec.slt_eq_decide, toInt_of_lt h, h0, h20]
  rw [decide_eq_true (by omega), decide_eq_true (by omega)]; rfl

/-! ## The take -/

/-- The positions as the gather reads them: 21 added to the negative ones, in a column. -/
def column (b : IVec S16x256x256 32) : IVec S16x256x256x1 32 :=
  broadcastInDim S16x256x256x1 ![0, 1, 2] bcast_S16x256x256_S16x256x256x1_0_1_2
    (select (cmpi .slt b (broadcastInDim S16x256x256 ![] bcast_S_S16x256x256 (constantI S_ 32 0#32)))
      (addi b (broadcastInDim S16x256x256 ![] bcast_S_S16x256x256 (constantI S_ 32 21#32))) b)

/-- For every position, whether it lies in the table. -/
def inside (s : IVec S16x256x256x1 32) : IVec S16x256x256 1 :=
  Host.reduce IntOp.andi
    (andi (cmpi .sge s (broadcastInDim S16x256x256x1 ![] bcast_S_S16x256x256x1 (constantI S_ 32 0#32)))
      (cmpi .sle s (broadcastInDim S16x256x256x1 ![0, 1, 2, 3] bcast_S1x1x1x1_S16x256x256x1_0_1_2_3
        (broadcastInDim S1x1x1x1 ![3] bcast_S1_S1x1x1x1_3 (constantI S1 32 20#32)))))
    (constantI S_ 1 1#1) reducesTo_S16x256x256x1_S16x256x256_d3 h_S_

/-- The column at a place, of positions below 21: the position of the place. -/
theorem column_apply (b : IVec S16x256x256 32) (hb : ∀ k, (b k).toNat < 21) (k : S16x256x256x1.Idx) :
    column b k = b (ix3 (k 0) (k 1) (k 2)) := by
  have e : ∀ i, select (cmpi .slt b (broadcastInDim S16x256x256 ![] bcast_S_S16x256x256 (constantI S_ 32 0#32)))
      (addi b (broadcastInDim S16x256x256 ![] bcast_S_S16x256x256 (constantI S_ 32 21#32))) b i = b i := by
    intro i
    show Scalar.select (IntOp.cmpi .slt (b i) 0#32) _ (b i) = b i
    rw [not_neg (hb i)]
    rfl
  refine (e _).trans (congrArg b (funext fun d => ?_))
  match d with
  | ⟨0, _⟩ => rfl
  | ⟨1, _⟩ => rfl
  | ⟨2, _⟩ => rfl

/-- A select at a place whose condition is 1: its first operand there. -/
theorem select_of_one {s : Shape} {α : Type} (c : IVec s 1) (p q : s.Idx → α) (i : s.Idx) (h : c i = 1#1) :
    select c p q i = p i := if_pos h

/-- Positions below 21 all lie in the table. -/
theorem inside_apply (s : IVec S16x256x256x1 32) (hs : ∀ k, (s k).toNat < 21) (i : S16x256x256.Idx) : inside s i = 1#1 :=
  Host.reduce_andi_one _ _ _ _ i rfl fun k => in_range (hs k)

/-- The gather at a place whose position `n` is below 21: the operand at `n`. -/
theorem gather_apply {α : Type} (a : S21.Idx → α) (s : IVec S16x256x256x1 32) (i : S16x256x256.Idx)
    (h : (s (fun | ⟨0, _⟩ => i 0 | ⟨1, _⟩ => i 1 | ⟨2, _⟩ => i 2 | ⟨3, _⟩ => (0 : Fin 1))).toNat < 21) :
    Host.gather gather_S21_S16x256x256x1_S16x256x256_n_0_n_n_0_3_1 a s i = a (ix1 ⟨_, h⟩) := by
  unfold Host.gather
  refine congrArg a (funext fun d => Fin.ext ?_)
  obtain rfl : d = 0 := Subsingleton.elim _ _
  show GatherDims.start _ i s 0 + GatherDims.batchCoord _ i 0 + GatherDims.offCoord _ i 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S21_S16x256x256x1_S16x256x256_n_0_n_n_0_3_1.startIndexMap from
    List.mem_singleton.mpr rfl)]
  have e : gather_S21_S16x256x256x1_S16x256x256_n_0_n_n_0_3_1.siIdx i
      ⟨List.idxOf (0 : Fin 1) gather_S21_S16x256x256x1_S16x256x256_n_0_n_n_0_3_1.startIndexMap,
        List.idxOf_lt_length_iff.2 (List.mem_singleton.mpr rfl)⟩
      = fun | ⟨0, _⟩ => i 0 | ⟨1, _⟩ => i 1 | ⟨2, _⟩ => i 2 | ⟨3, _⟩ => (0 : Fin 1) := by
    funext c
    refine Fin.ext ?_
    match c with
    | ⟨0, _⟩ => rfl
    | ⟨1, _⟩ => rfl
    | ⟨2, _⟩ => rfl
    | ⟨3, _⟩ => rfl
  rw [e]
  show min (BitVec.toInt _).toNat (21 - 1) + 0 + 0 = BitVec.toNat _
  rw [toInt_of_lt h]
  omega

/-! ## The result -/

/-- The reference's positions: the input over five, converted to integers, clipped. -/
def bins (x : FVec Ideal S16x256x256 .f32) : IVec S16x256x256 32 :=
  minsi (broadcastInDim S16x256x256 ![] bcast_S_S16x256x256 (id (constantI S_ 32 20#32)))
    (maxsi (broadcastInDim S16x256x256 ![] bcast_S_S16x256x256 (id (constantI S_ 32 0#32)))
      (fptosi 32 (Host.divf x (broadcastInDim S16x256x256 ![] bcast_S_S16x256x256 (constant S_ .f32 0x40A00000#32)))))

/-- They are element by element the positions the elements name. -/
theorem bins_apply (x : FVec Ideal S16x256x256 .f32) (k : S16x256x256.Idx) : bins x k = bin (x k) := rfl

/-- The take: the table's entries at the positions, where they lie in the table. -/
def taken (x : FVec Ideal S16x256x256 .f32) (a : FVec Ideal S21 .f32) : FVec Ideal S16x256x256 .f32 :=
  select (inside (column (bins x))) (Host.gather gather_S21_S16x256x256x1_S16x256x256_n_0_n_n_0_3_1 a (column (bins x)))
    (broadcastInDim S16x256x256 ![] bcast_S_S16x256x256 (constant S_ .f32 0x7FC00000#32))

/-- The take at a place: the weight of the input element there. -/
theorem taken_apply (x : FVec Ideal S16x256x256 .f32) (a : FVec Ideal S21 .f32) (i : S16x256x256.Idx) :
    taken x a i = weight a (x i) := by
  have hb : ∀ k, (bins x k).toNat < 21 := fun k => bin_lt (x k)
  have hs : ∀ k, (column (bins x) k).toNat < 21 := fun k => by rw [column_apply _ hb]; exact hb _
  refine (select_of_one _ _ _ i (inside_apply _ hs i)).trans ((gather_apply a _ i (hs _)).trans ?_)
  have e : ∀ k, column (bins x) k = bin (x (ix3 (k 0) (k 1) (k 2))) := column_apply _ hb
  refine congrArg (fun n => a (ix1 n)) (Fin.ext ?_)
  show (column (bins x) _).toNat = (bin (x i)).toNat
  rw [e]
  exact congrArg (fun k => (bin (x k)).toNat) (eq_ix3 i).symm

/-- An ideal number over one is itself. -/
theorem div_one (x : Ideal .f32) : FloatOps.hostDivf x (FloatOps.ofBits .f32 0x3F800000#32) = x := by
  have h1 : (FloatOps.ofBits .f32 0x3F800000#32 : Ideal .f32) = (1 : EReal) := Ideal.ofBits_one_f32
  rw [Ideal.hostDivf_def, h1]
  unfold Ideal.div
  rw [if_neg one_ne_zero, inv_one, mul_one]

/-- The reference's result at an index: the weight of the input element there. -/
theorem result_apply (m : (ℓ : Loc nD τ sig) → Buf (Elt Ideal) ℓ) (c : Dev nD) (j : S16x1x256x256.Idx) :
    res_out0 m c j = weight (F := Ideal) (m ((c.tc : Thread nD τ).loc main_arg2)) (m ((c.tc : Thread nD τ).loc main_arg0) (source j)) := by
  have h : res_out0 m c
      = broadcastInDim S16x1x256x256 ![0, 2, 3] bcast_S16x256x256_S16x1x256x256_0_2_3
          (Host.divf (taken (m ((c.tc : Thread nD τ).loc main_arg0)) (m ((c.tc : Thread nD τ).loc main_arg2)))
            (broadcastInDim S16x256x256 ![] bcast_S_S16x256x256 (constant S_ .f32 0x3F800000#32))) := by
    unfold res_out0 res_main_v8; rfl
  have e : ∀ i, Host.divf (taken (m ((c.tc : Thread nD τ).loc main_arg0)) (m ((c.tc : Thread nD τ).loc main_arg2)))
      (broadcastInDim S16x256x256 ![] bcast_S_S16x256x256 (constant S_ .f32 0x3F800000#32)) i
      = weight (F := Ideal) (m ((c.tc : Thread nD τ).loc main_arg2)) (m ((c.tc : Thread nD τ).loc main_arg0) i) :=
    fun i => (div_one _).trans (taken_apply _ _ i)
  rw [h]
  refine (e _).trans (congrArg (fun i => weight (F := Ideal) _ (m ((c.tc : Thread nD τ).loc main_arg0) i)) (funext fun d => ?_))
  match d with
  | ⟨0, _⟩ => rfl
  | ⟨1, _⟩ => rfl
  | ⟨2, _⟩ => rfl

end Cert.ReferenceIdeal.Result

end
-- ==== Proof.Equation.lean ====
/-
  The equation: from equal arguments, the kernel's result and the reference's hold the same value at every index — the
  weight of the input element there.
-/
module

public import proofs.«01_k».proof.Proof.KernelValue
public import proofs.«01_k».proof.Proof.ReferenceValue

@[expose] public section

noncomputable section

namespace Cert.Proof

open Idealize.ShloMosaic Idealize.SL.Sem

/-- The reference's result is the kernel's, as functions of the input and the weights. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_out0 m' c
      = Cert.KernelIdeal.Launch.result (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  funext j
  refine (Cert.ReferenceIdeal.Result.result_apply m' c j).trans ?_
  rw [h0, h2]
  exact (Cert.KernelIdeal.Result.result_apply _ _ j).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs to the end on hardware floats, leaves its arguments as they were and every semaphore at zero: its
    run, the result's value dropped. -/
theorem frame_kernel : Cert.quiescent_Kernel := fun m g _ =>
  (θ_run Cert.Kernel.defs _ _).mono (fun _ h => ⟨fun c => (h.1 c).2, h.2⟩) (Cert.Kernel.Launch.run_main (F := Bits) m g)

/-- The same of the kernel on ideal floats. -/
theorem frame_kernelIdeal : Cert.quiescent_KernelIdeal := fun m g _ =>
  (θ_run Cert.KernelIdeal.defs _ _).mono (fun _ h => ⟨fun c => (h.1 c).2, h.2⟩)
    (Cert.KernelIdeal.Launch.run_main (F := Ideal) m g)

/-- The same of the reference, which has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On ideal floats and from equal arguments, the kernel and the reference end with the same result, the kernel's
    `result` of the input and the weights. -/
theorem value : Cert.algebraic_KernelIdeal_ReferenceIdeal := fun m g m' g' _ hm =>
  ⟨fun c => Cert.KernelIdeal.Launch.result (F := Ideal) (m (c.tc.loc Cert.KernelIdeal.main_arg0)) (m (c.tc.loc Cert.KernelIdeal.main_arg2)),
    (θ_run Cert.KernelIdeal.defs _ _).mono (fun _ h c => h.1 c) (Cert.KernelIdeal.Launch.run_main (F := Ideal) m g),
    (θ_run Cert.ReferenceIdeal.defs _ _).mono (fun _ h c => ⟨(h c).1.trans (results_eq m m' c (hm c).1 (hm c).2.2), (h c).2⟩)
      (Cert.ReferenceIdeal.Value.run (F := Ideal) m' g')⟩

/-- The certificate: the three frames, the idealization (which rewrote nothing) and the equal results. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
